-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S_ : Shape := ⟨0, ![]⟩
abbrev S102400x512 : Shape := ⟨2, ![102400, 512]⟩
abbrev S102400 : Shape := ⟨1, ![102400]⟩
abbrev S50x1x2048 : Shape := ⟨3, ![50, 1, 2048]⟩
abbrev S1x1 : Shape := ⟨2, ![1, 1]⟩
abbrev S1024x512 : Shape := ⟨2, ![1024, 512]⟩
abbrev S2048x512 : Shape := ⟨2, ![2048, 512]⟩
abbrev S1x1x2048 : Shape := ⟨3, ![1, 1, 2048]⟩
abbrev S2048x1 : Shape := ⟨2, ![2048, 1]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 13
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x1, .f32⟩
  | .hbm, ⟨3, _⟩ => ⟨S1, .f32⟩
  | .hbm, ⟨4, _⟩ => ⟨S_, .i32⟩
  | .hbm, ⟨5, _⟩ => ⟨S_, .f32⟩
  | .hbm, ⟨6, _⟩ => ⟨S102400x512, .f32⟩
  | .hbm, ⟨7, _⟩ => ⟨S_, .i32⟩
  | .hbm, ⟨8, _⟩ => ⟨S_, .i32⟩
  | .hbm, ⟨9, _⟩ => ⟨S102400, .i32⟩
  | .hbm, ⟨10, _⟩ => ⟨S50x1x2048, .i32⟩
  | .hbm, ⟨11, _⟩ => ⟨S1x1, .f32⟩
  | .hbm, ⟨12, _⟩ => ⟨S1024x512, .f32⟩
  | .local _ .vmem, ⟨0, _⟩ => ⟨S2048x512, .f32⟩
  | .local _ .vmem, ⟨1, _⟩ => ⟨S2048x512, .f32⟩
  | .local _ .vmem, ⟨2, _⟩ => ⟨S1x1x2048, .i32⟩
  | .local _ .vmem, ⟨3, _⟩ => ⟨S1x1x2048, .i32⟩
  | .local _ .vmem, ⟨4, _⟩ => ⟨S512x1, .f32⟩
  | .local _ .vmem, ⟨5, _⟩ => ⟨S1x1, .f32⟩
  | .local _ .vmem, ⟨6, _⟩ => ⟨S1024x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_c_0 : Ref sig .tc := ⟨.hbm, 7, rfl⟩
abbrev main_call0_call1_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S100000x1 : Shape := ⟨2, ![100000, 1]⟩
abbrev S1x1 : Shape := ⟨2, ![1, 1]⟩
abbrev S_ : Shape := ⟨0, ![]⟩
abbrev S1024x512 : Shape := ⟨2, ![1024, 512]⟩

abbrev nBuf : Space → Nat
  | .hbm => 22
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x1, .f32⟩
  | .hbm, ⟨3, _⟩ => ⟨S1, .f32⟩
  | .hbm, ⟨4, _⟩ => ⟨S100000x1, .f32⟩
  | .hbm, ⟨5, _⟩ => ⟨S1x1, .f32⟩
  | .hbm, ⟨6, _⟩ => ⟨S100000x1, .f32⟩
  | .hbm, ⟨7, _⟩ => ⟨S100000x1, .f32⟩
  | .hbm, ⟨8, _⟩ => ⟨S100000x1, .f32⟩
  | .hbm, ⟨9, _⟩ => ⟨S100000x1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S_, .f32⟩
  | .hbm, ⟨14, _⟩ => ⟨S100000x1, .f32⟩
  | .hbm, ⟨15, _⟩ => ⟨S100000x1, .f32⟩
  | .hbm, ⟨16, _⟩ => ⟨S100000x512, .f32⟩
  | .hbm, ⟨17, _⟩ => ⟨S100000x512, .f32⟩
  | .hbm, ⟨18, _⟩ => ⟨S_, .f32⟩
  | .hbm, ⟨19, _⟩ => ⟨S1024x512, .f32⟩
  | .hbm, ⟨20, _⟩ => ⟨S100000x1, .i32⟩
  | .hbm, ⟨21, _⟩ => ⟨S1024x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Share.lean ====
/-
  What the two programs compute, written on plain functions: the gate of a node, the share of a node in a segment's
  sum, and the sum of the shares over a run of blocks of nodes.
-/
module

public import Idealize.ShloMosaic.Lib.Pointwise

@[expose] public section

noncomputable section

namespace Cert.Proof.SegSum

open Idealize.ShloMosaic

/-- The gate of a node with features `row`: the logistic function of `row · w + b`. -/
def gate (row w : Fin 512 → EReal) (b : EReal) : EReal :=
  Ideal.div 1 (1 + Ideal.exp (-(∑ k, row k * w k + b)))

/-- The share that a node with features `row` and graph id `id` has in segment `s` at feature `f`: its gated feature
    when the id names the segment, nothing otherwise. -/
def share (w : Fin 512 → EReal) (b : EReal) (s : Fin 1024) (f : Fin 512) (row : Fin 512 → EReal) (id : BitVec 32) : EReal :=
  if id = BitVec.ofNat 32 s.val then row f * gate row w b else 0

/-- A row of zeros has no share in any segment, whatever its id and its gate are. -/
theorem share_zero (w : Fin 512 → EReal) (b : EReal) (s : Fin 1024) (f : Fin 512) (id : BitVec 32) :
    share w b s f (fun _ => 0) id = 0 := by
  unfold share
  rw [zero_mul, ite_self]

/-- A product with an entry of the one-hot matrix, which is 1 where the two words agree and 0 elsewhere. -/
theorem oneHot_mul (a b : BitVec 32) (v : EReal) :
    (FloatOps.sitofp (F := Ideal) .f32 (BitVec.setWidth 32 (IntOp.cmpi .eq a b)) : EReal) * v = if b = a then v else 0 := by
  show (((BitVec.setWidth 32 (BitVec.ofBool (a == b))).toInt : ℝ) : EReal) * v = _
  by_cases h : b = a
  · subst h
    rw [if_pos rfl, beq_self_eq_true]
    have e : (BitVec.setWidth 32 (BitVec.ofBool true)).toInt = 1 := by decide
    rw [e, Int.cast_one, EReal.coe_one, one_mul]
  · rw [if_neg h, beq_false_of_ne (Ne.symm h)]
    have e : (BitVec.setWidth 32 (BitVec.ofBool false)).toInt = 0 := by decide
    rw [e, Int.cast_zero, EReal.coe_zero, zero_mul]

/-- A word read signed is a segment's number exactly when it is that number's word. -/
theorem toInt_eq_iff (id : BitVec 32) (s : Fin 1024) : id.toInt = (s.val : Int) ↔ id = BitVec.ofNat 32 s.val := by
  have hs := s.isLt
  have hn : (BitVec.ofNat 32 s.val).toInt = (s.val : Int) := by
    rw [BitVec.toInt_ofNat', Int.bmod_def]
    split <;> omega
  constructor
  · intro h
    exact BitVec.eq_of_toInt_eq (h.trans hn.symm)
  · rintro rfl
    exact hn

/-- A sum over `p` blocks of `B` consecutive numbers each is the sum over the `B * p` numbers. -/
theorem sum_blocks (B : ℕ) (F : ℕ → EReal) (p : ℕ) :
    ∑ q ∈ Finset.range p, ∑ r : Fin B, F (B * q + r.val) = ∑ n ∈ Finset.range (B * p), F n := by
  induction p with
  | zero => rfl
  | succ p ih =>
    rw [Finset.sum_range_succ, ih, Nat.mul_succ, Finset.sum_range_add, Fin.sum_univ_eq_sum_range (fun r => F (B * p + r)) B]

/-- Numbers past `N` that contribute nothing may be left out of a sum. -/
theorem sum_range_padded (N M : ℕ) (F : ℕ → EReal) (h : ∀ n, N ≤ n → F n = 0) :
    ∑ n ∈ Finset.range (N + M), F n = ∑ n : Fin N, F n.val := by
  rw [Finset.sum_range_add, Finset.sum_eq_zero (s := Finset.range M) fun r _ => h (N + r) (Nat.le_add_right N r), add_zero,
    Fin.sum_univ_eq_sum_range F N]

end Cert.Proof.SegSum

end
-- ==== Proof.Blocks.lean ====
/-
  What one grid point of the kernel reads and adds: the blocks of the padded arrays at an index, and the body's
  payload as the accumulator plus the sum of the block's shares.
-/
module

public import proofs.«01_k».proof.Proof.Gen.KernelIdeal.Value
public import proofs.«01_k».proof.Proof.Share
public import Idealize.ShloMosaic.Lib.Pipeline.ValueKit
public import Idealize.ShloMosaic.Lib.StableHlo.ReadAt

@[expose] public section

set_option maxRecDepth 16384

noncomputable section

namespace Cert.Proof.SegSum

open Idealize.ShloMosaic Idealize.ShloMosaic.TcCoe Idealize.SL.Sem
open Cert.KernelIdeal Cert.KernelIdeal.Gen

/-! ## The body -/

/-- What the body leaves in the accumulator: what it held, plus the shares of the block's 2048 rows. -/
theorem payload_apply (x : Vec Ideal S2048x512 .f32) (w : Vec Ideal S512x1 .f32) (b : Vec Ideal S1x1 .f32)
    (ids : Vec Ideal S1x1x2048 .i32) (acc : Vec Ideal S1024x512 .f32) (s : Fin 1024) (f : Fin 512) :
    k0_pay2 x w b ids acc (ix2 s f)
      = (acc (ix2 s f) : EReal)
        + ∑ r : Fin 2048, share (fun k => w (ix2 k 0)) (b (ix2 0 0)) s f (fun k => x (ix2 r k)) (ids (ix3 0 0 r)) := by
  pointwise [k0_pay2]
  unfold share gate
  simp only [oneHot_mul, zero_sub]

/-- What the first point's initialisation leaves in the accumulator: zeros. -/
theorem init_apply (s : Fin 1024) (f : Fin 512) : (k0_pay1 (F := Ideal)) (ix2 s f) = (0 : EReal) := by
  pointwise [k0_pay1]

/-! ## The arrays when the launch begins -/

variable (m : (ℓ : Loc nD τ sig) → Buf (Elt Ideal) ℓ) (c : Dev nD)

/-- The node features as launched. -/
abbrev argX : Vec Ideal S100000x512 .f32 := m (c.tc.loc main_arg0)
/-- The graph ids as launched. -/
abbrev argIds : Vec Ideal S100000 .i32 := m (c.tc.loc main_arg1)
/-- The gate's weights as launched. -/
abbrev argW : Vec Ideal S512x1 .f32 := m (c.tc.loc main_arg2)
/-- The gate's bias as launched. -/
abbrev argB : Vec Ideal S1 .f32 := m (c.tc.loc main_arg3)

/-- Node `n`'s features; a row of zeros past the last node. -/
def rowAt (n : ℕ) : Fin 512 → EReal := fun k => if h : n < 100000 then argX m c (ix2 ⟨n, h⟩ k) else 0

/-- Node `n`'s graph id; zero past the last node. -/
def idAt (n : ℕ) : BitVec 32 := if h : n < 100000 then argIds m c (ix1 ⟨n, h⟩) else 0#32

/-- The padded features: the nodes' rows, then rows of zeros. -/
theorem padded_x (n : Fin 102400) (k : Fin 512) :
    (V m c main_call0_v0 : Vec Ideal S102400x512 .f32) (ix2 n k) = rowAt m c n.val k := by
  have z : (FloatOps.sitofp (F := Ideal) .f32 0#32 : EReal) = 0 := by
    show (((0#32 : BitVec 32).toInt : ℝ) : EReal) = 0
    rw [show (0#32 : BitVec 32).toInt = 0 from by decide, Int.cast_zero, EReal.coe_zero]
  unfold V
  after_reads_at
  rw [z]
  rfl

/-- The padded ids, reshaped into one row per grid point. -/
theorem padded_ids (t : Fin 50) (r : Fin 2048) :
    (V m c main_call0_v2 : Vec Ideal S50x1x2048 .i32) (ix3 t 0 r) = idAt m c (2048 * t.val + r.val) := by
  unfold V
  after_reads_at
  rw [Nat.mul_comm 2048]
  rfl

/-- The bias, reshaped. -/
theorem bias_apply : (V m c main_call0_v3 : Vec Ideal S1x1 .f32) (ix2 0 0) = argB m c (ix1 0) := by
  unfold V
  after_reads_at

/-! ## The blocks -/

/-- The input windows' block indices at point `t`: block `t` of the features and of the ids, the whole of the weights
    and of the bias. -/
theorem index_eq : ∀ t : Fin cfg0.N, win0_0.index t = ![t.val, 0] ∧ win0_1.index t = ![t.val, 0, 0]
    ∧ win0_2.index t = ![0, 0] ∧ win0_3.index t = ![0, 0] :=
  (by decide +kernel : ∀ t : Fin grid0.N, _)

variable (t : Fin cfg0.N)

/-- Row `r` of point `t`'s block of features is row `2048 t + r` of the padded features. -/
theorem block_x (r : Fin 2048) (k : Fin 512) :
    (iblk m c 0 t : Vec Ideal S2048x512 .f32) (ix2 r k) = rowAt m c (2048 * t.val + r.val) k := by
  have ht : t.val < 50 := lt_of_lt_of_eq t.isLt N_0
  have h : 2048 * t.val + r.val < 102400 := by have := r.isLt; omega
  have e : (iblk m c 0 t : Vec Ideal S2048x512 .f32) (ix2 r k)
      = (V m c main_call0_v0 : Vec Ideal S102400x512 .f32) (ix2 ⟨2048 * t.val + r.val, h⟩ k) := by
    blk_ext [iblk, index_eq t]
  exact e.trans (padded_x m c _ k)

/-- Id `r` of point `t`'s block of ids is id `2048 t + r` of the padded ids. -/
theorem block_ids (r : Fin 2048) :
    (iblk m c 1 t : Vec Ideal S1x1x2048 .i32) (ix3 0 0 r) = idAt m c (2048 * t.val + r.val) := by
  have ht : t.val < 50 := lt_of_lt_of_eq t.isLt N_0
  have e : (iblk m c 1 t : Vec Ideal S1x1x2048 .i32) (ix3 0 0 r)
      = (V m c main_call0_v2 : Vec Ideal S50x1x2048 .i32) (ix3 ⟨t.val, ht⟩ 0 r) := by
    blk_ext [iblk, index_eq t]
  exact e.trans (padded_ids m c ⟨t.val, ht⟩ r)

/-- Every point's block of weights is the weights. -/
theorem block_w (k : Fin 512) : (iblk m c 2 t : Vec Ideal S512x1 .f32) (ix2 k 0) = argW m c (ix2 k 0) := by
  have e : (iblk m c 2 t : Vec Ideal S512x1 .f32) (ix2 k 0) = (V m c main_arg2 : Vec Ideal S512x1 .f32) (ix2 k 0) := by
    blk_ext [iblk, index_eq t]
  exact e.trans (congrFun (V_main_arg2 m c) _)

/-- Every point's block of the bias is the bias. -/
theorem block_b : (iblk m c 3 t : Vec Ideal S1x1 .f32) (ix2 0 0) = argB m c (ix1 0) := by
  have e : (iblk m c 3 t : Vec Ideal S1x1 .f32) (ix2 0 0) = (V m c main_call0_v3 : Vec Ideal S1x1 .f32) (ix2 0 0) := by
    blk_ext [iblk, index_eq t]
  exact e.trans (bias_apply m c)

end Cert.Proof.SegSum

end
-- ==== Proof.Accumulated.lean ====
/-
  The kernel's result at an index: the accumulator's fold over the 50 grid points is the sum over all nodes of their
  shares in the segment.
-/
module

public import proofs.«01_k».proof.Proof.Blocks

@[expose] public section

set_option maxRecDepth 16384

noncomputable section

namespace Cert.Proof.SegSum

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The share of the padded arrays' row `n` in segment `i 0` at feature `i 1`. -/
def shareAt (i : S1024x512.Idx) (n : ℕ) : EReal :=
  share (fun k => argW m c (ix2 k 0)) (argB m c (ix1 0)) (i 0) (i 1) (rowAt m c n) (idAt m c n)

/-- What grid point `q` adds: the shares of rows `2048 q` to `2048 q + 2047`. -/
def addend (q : ℕ) : S1024x512.Idx → EReal := fun i => ∑ r : Fin 2048, shareAt m c i (2048 * q + r.val)

/-- The body at point `n` over any accumulator: the accumulator plus the point's addend. -/
theorem body_apply (n : ℕ) (h : n < cfg0.N) (acc : Vec Ideal S1024x512 .f32) (i : S1024x512.Idx) :
    k0_pay2 (iblk m c 0 ⟨n, h⟩) (iblk m c 2 ⟨n, h⟩) (iblk m c 3 ⟨n, h⟩) (iblk m c 1 ⟨n, h⟩) acc i
      = (acc i : EReal) + addend m c n i := by
  obtain ⟨s, f, rfl⟩ : ∃ (s : Fin 1024) (f : Fin 512), i = ix2 s f := ⟨i 0, i 1, eq_ix2 i⟩
  rw [payload_apply]
  unfold addend shareAt
  refine congrArg (acc (ix2 s f) + ·) (Finset.sum_congr rfl fun r _ => ?_)
  simp only [block_x, block_ids, block_w, block_b]
  rfl

/-- THE KERNEL AT AN INDEX: the result array at segment `s` and feature `f` is the sum over the nodes of the shares
    that they have in the segment; the padded rows have none. -/
theorem kernel_apply (s : Fin 1024) (f : Fin 512) :
    ((Value.G4 m c : Vec Ideal S1024x512 .f32) (ix2 s f) : EReal)
      = ∑ n : Fin 100000, share (fun k => argW m c (ix2 k 0)) (argB m c (ix1 0)) s f
          (fun k => argX m c (ix2 n k)) (argIds m c (ix1 n)) := by
  have hs := s.isLt
  have hf := f.isLt
  have hrun : Value.run4Of (ix2 s f) = 0 := by
    show 1 * (s.val / 1024 - 0) + 1 * (f.val / 512 - 0) = 0
    omega
  have hloc : Value.loc4Of (ix2 s f) = ix2 s f := by
    funext a
    apply Fin.ext
    match a with
    | ⟨0, _⟩ => exact Nat.mod_eq_of_lt hs
    | ⟨1, _⟩ => exact Nat.mod_eq_of_lt hf
  have hN : 50 * Value.run4Of (ix2 s f) + 49 < cfg0.N := by
    rw [hrun, show cfg0.N = 50 from N_0]
    decide
  have hG : (Value.G4 m c : Vec Ideal S1024x512 .f32) (ix2 s f)
      = Pipeline.accAt (Value.reset4 m c) (Value.step4 m c) (50 * Value.run4Of (ix2 s f)) 49 hN
          (Value.loc4Of (ix2 s f)) := dif_pos hN
  have hfold := Pipeline.accAt_add_apply (β := EReal) (Value.reset4 m c) (Value.step4 m c) (fun _ => 0) (addend m c)
    (50 * Value.run4Of (ix2 s f)) 49
    (fun h i => (body_apply m c _ h _ i).trans (congrArg (· + _) (by rw [eq_ix2 i]; exact init_apply _ _)))
    (fun n h acc i _ _ => body_apply m c n h acc i) 49 le_rfl hN (Value.loc4Of (ix2 s f))
  have hnodes : ∑ n : Fin 100000, shareAt m c (ix2 s f) n.val
      = ∑ n : Fin 100000, share (fun k => argW m c (ix2 k 0)) (argB m c (ix1 0)) s f
          (fun k => argX m c (ix2 n k)) (argIds m c (ix1 n)) := by
    refine Finset.sum_congr rfl fun n _ => ?_
    have hrow : rowAt m c n.val = fun k => argX m c (ix2 n k) := funext fun k => dif_pos n.isLt
    have hid : idAt m c n.val = argIds m c (ix1 n) := dif_pos n.isLt
    unfold shareAt
    rw [hrow, hid]
    rfl
  have hpad : ∀ n, 100000 ≤ n → shareAt m c (ix2 s f) n = 0 := by
    intro n hn
    have hrow : rowAt m c n = fun _ => 0 := funext fun k => dif_neg (Nat.not_lt.2 hn)
    unfold shareAt
    rw [hrow]
    exact share_zero _ _ _ _ _
  refine (hG.trans hfold).trans (Eq.trans ?_ hnodes)
  rw [hloc, hrun, zero_add]
  simp only [Nat.mul_zero, Nat.zero_add]
  unfold addend
  rw [sum_blocks 2048 (shareAt m c (ix2 s f)) 50]
  exact sum_range_padded 100000 2400 _ hpad

end Cert.Proof.SegSum

end
-- ==== Proof.Reference.lean ====
/-
  The reference's result at an index: the sum over all nodes of their shares in the segment.
-/
module

public import proofs.«01_k».proof.Proof.Gen.ReferenceIdeal.Run
public import proofs.«01_k».proof.Proof.Share
public import Idealize.ShloMosaic.Lib.Routing.OpsPair

@[expose] public section

set_option maxRecDepth 16384

noncomputable section

namespace Cert.Proof.SegSum

open Idealize.ShloMosaic
open Cert.ReferenceIdeal Cert.ReferenceIdeal.Gen

/-- Update `(n, g)` of the scatter lands at `(s, f)` exactly when node `n`'s index word, read signed, is `s` and the
    features are the same. -/
theorem lands_iff (idx : IVec S100000x1 32) (n : Fin 100000) (g : Fin 512) (s : Fin 1024) (f : Fin 512) :
    scatter_S1024x512_S100000x1_S100000x512_1_0_0_1.resultIdx? (ix2 n g) idx = some (ix2 s f)
      ↔ (idx (ix2 n 0)).toInt = (s.val : Int) ∧ g = f := by
  have st0 : scatter_S1024x512_S100000x1_S100000x512_1_0_0_1.start (ix2 n g) idx 0 = (idx (ix2 n 0)).toInt := by
    unfold ScatterDims.start
    rw [dif_pos (by decide)]
    refine congrArg (fun i => (idx i).toInt) (funext fun a => ?_)
    match a with
    | ⟨0, _⟩ => rfl
    | ⟨1, _⟩ => rfl
  have st1 : scatter_S1024x512_S100000x1_S100000x512_1_0_0_1.start (ix2 n g) idx 1 = 0 := rfl
  have w0 : scatter_S1024x512_S100000x1_S100000x512_1_0_0_1.window (ix2 n g) 0 = 0 := rfl
  have w1 : scatter_S1024x512_S100000x1_S100000x512_1_0_0_1.window (ix2 n g) 1 = g.val := rfl
  rw [Routing.resultIdx?_eq_some]
  constructor
  · intro h
    have h0 := h 0
    have h1 := h 1
    rw [st0, w0] at h0
    rw [st1, w1] at h1
    have e0 : (idx (ix2 n 0)).toInt + ((0 : ℕ) : Int) = (s.val : Int) := h0
    have e1 : (0 : Int) + (g.val : Int) = (f.val : Int) := h1
    exact ⟨by omega, Fin.ext (by omega)⟩
  · rintro ⟨h, rfl⟩ a
    match a with
    | ⟨0, _⟩ =>
      show scatter_S1024x512_S100000x1_S100000x512_1_0_0_1.start (ix2 n g) idx 0
        + (scatter_S1024x512_S100000x1_S100000x512_1_0_0_1.window (ix2 n g) 0 : Int) = (s.val : Int)
      rw [st0, w0, h]
      exact add_zero _
    | ⟨1, _⟩ =>
      show scatter_S1024x512_S100000x1_S100000x512_1_0_0_1.start (ix2 n g) idx 1
        + (scatter_S1024x512_S100000x1_S100000x512_1_0_0_1.window (ix2 n g) 1 : Int) = (g.val : Int)
      rw [st1, w1]
      exact zero_add _

/-- THE REFERENCE AT AN INDEX: its composed term at segment `s` and feature `f` is the sum over the nodes of the shares
    that they have in the segment. -/
theorem reference_apply (x : FVec Ideal S100000x512 .f32) (ids : IVec S100000 32) (w : FVec Ideal S512x1 .f32)
    (b : FVec Ideal S1 .f32) (s : Fin 1024) (f : Fin 512) :
    (Host.scatterAdd scatter_S1024x512_S100000x1_S100000x512_1_0_0_1
      (broadcastInDim S1024x512 ![] bcast_S_S1024x512 (constant S_ .f32 0x00000000#32))
      (broadcastInDim S100000x1 ![0] bcast_S100000_S100000x1_0 ids)
      (mulf x (broadcastInDim S100000x512 ![0, 1] bcast_S100000x1_S100000x512_0_1
        (Host.divf (broadcastInDim S100000x1 ![] bcast_S_S100000x1 (constant S_ .f32 0x3F800000#32))
          (addf (broadcastInDim S100000x1 ![] bcast_S_S100000x1 (constant S_ .f32 0x3F800000#32))
            (Host.exp (Host.negf (addf (Host.dotGeneral dot_S100000x512_S512x1_S100000x1_1_0_0_1_n_n none x w)
              (broadcastInDim S100000x1 ![0, 1] bcast_S1x1_S100000x1_0_1
                (broadcastInDim S1x1 ![1] bcast_S1_S1x1_1 b))))))))) : FVec Ideal S1024x512 .f32) (ix2 s f)
      = ∑ n : Fin 100000, share (fun k => w (ix2 k 0)) (b (ix1 0)) s f (fun k => x (ix2 n k)) (ids (ix1 n)) := by
  unfold Host.scatterAdd
  rw [Ideal.hostScatterAdd_def]
  unfold Ideal.hostScatterAdd
  rw [Finset.sum_filter, sum_idx2]
  simp only [lands_iff]
  pointwise
  refine Finset.sum_congr rfl fun n _ => ?_
  simp only [toInt_eq_iff]
  unfold share gate
  by_cases h : ids (ix1 n) = BitVec.ofNat 32 s.val
  · simp only [h, true_and, if_true]
    rw [Finset.sum_ite_eq' Finset.univ f]
    exact if_pos (Finset.mem_univ f)
  · simp only [h, false_and, if_false, Finset.sum_const_zero]

end Cert.Proof.SegSum

end
-- ==== Proof.lean ====
/-
  The proof of `Cert.Claim`. The frames are the programs' own runs. The value claim puts the kernel's run and the
  reference's run side by side on memories that agree on the arguments: the kernel's result at an index
  (`SegSum.kernel_apply`) and the reference's (`SegSum.reference_apply`) are the same sum of shares over the nodes.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Accumulated
public import proofs.«01_k».proof.Proof.Reference

@[expose] public section

noncomputable section

namespace Cert.Proof

open Idealize.ShloMosaic Idealize.SL.Sem

/-- The reference runs to its end, changes no argument and leaves every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the arguments the kernel and the reference end with the same result array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  rw [eq_ix2 i]
  exact (SegSum.reference_apply _ _ _ _ (i 0) (i 1)).trans (SegSum.kernel_apply m c (i 0) (i 1)).symm

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
